-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_joint_levels [hPre_joint_levels : Cert.Pre_joint_levels.Facts] (m : (ℓ : Loc Cert.KernelIdeal.nD Cert.KernelIdeal.τ Cert.KernelIdeal.sig) → Buf (Elt Ideal) ℓ) : Prop :=
  ∀ c : Dev Cert.KernelIdeal.nD,
    (Cert.Pre_joint_levels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_joint_levels [hPre_joint_levels : Cert.Pre_joint_levels.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_joint_levels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_joint_levels [hKernelIdeal : Cert.KernelIdeal.Facts] [hPre_joint_levels : Cert.Pre_joint_levels.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_joint_levels m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_joint_levels [hReferenceIdeal : Cert.ReferenceIdeal.Facts] [hPre_joint_levels : Cert.Pre_joint_levels.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_joint_levels m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_joint_levels [hKernelIdeal : Cert.KernelIdeal.Facts] [hReferenceIdeal : Cert.ReferenceIdeal.Facts] [hPre_joint_levels : Cert.Pre_joint_levels.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_joint_levels m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_joint_levels : Cert.Pre_joint_levels.Facts),
    quiescent_Kernel (hKernel := hKernel)
    ∧ quiescent_KernelIdeal (hKernelIdeal := hKernelIdeal)
    ∧ quiescent_KernelIdeal_pre_joint_levels (hKernelIdeal := hKernelIdeal) (hPre_joint_levels := hPre_joint_levels)
    ∧ quiescent_ReferenceIdeal (hReferenceIdeal := hReferenceIdeal)
    ∧ quiescent_ReferenceIdeal_pre_joint_levels (hReferenceIdeal := hReferenceIdeal) (hPre_joint_levels := hPre_joint_levels)
    ∧ preserves_Kernel_KernelIdeal
    ∧ algebraic_KernelIdeal_ReferenceIdeal_pre_joint_levels (hKernelIdeal := hKernelIdeal) (hReferenceIdeal := hReferenceIdeal) (hPre_joint_levels := hPre_joint_levels)
-- ==== Pre_joint_levels.lean ====
abbrev S128x243x17x128 : Shape := ⟨4, ![128, 243, 17, 128]⟩
abbrev S6x128 : Shape := ⟨2, ![6, 128]⟩
abbrev S243x128 : Shape := ⟨2, ![243, 128]⟩
abbrev S17 : Shape := ⟨1, ![17]⟩
abbrev S_ : Shape := ⟨0, ![]⟩

class Facts : Prop where
  bcast_S_S17 : S_.BroadcastsInDim S17 (![] : Fin 0 → Fin S17.rank)

variable [Facts]

def fn {F : FTy → Type} [FloatOps F] (main_arg0 : FVec F S128x243x17x128 .f32) (main_arg1 : FVec F S6x128 .f32) (main_arg2 : FVec F S243x128 .f32) (main_arg3 : IVec S17 32) : IVec S17 1 :=
  let main_c : IVec S_ 32 := constantI S_ 32 0#32
  let main_v0 : IVec S17 32 := broadcastInDim S17 ![] bcast_S_S17 main_c
  let main_v1 : IVec S17 1 := cmpi .sge main_arg3 main_v0
  let main_c_0 : IVec S_ 32 := constantI S_ 32 6#32
  let main_v2 : IVec S17 32 := broadcastInDim S17 ![] bcast_S_S17 main_c_0
  let main_v3 : IVec S17 1 := cmpi .slt main_arg3 main_v2
  let main_v4 : IVec S17 1 := andi main_v1 main_v3
  main_v4
-- ==== Kernel.lean ====
abbrev S128x243x17x128 : Shape := ⟨4, ![128, 243, 17, 128]⟩
abbrev S6x128 : Shape := ⟨2, ![6, 128]⟩
abbrev S243x128 : Shape := ⟨2, ![243, 128]⟩
abbrev S17 : Shape := ⟨1, ![17]⟩
abbrev S17x1 : Shape := ⟨2, ![17, 1]⟩
abbrev S243x17x128 : Shape := ⟨3, ![243, 17, 128]⟩
abbrev S17x128 : Shape := ⟨2, ![17, 128]⟩
abbrev S1x128 : Shape := ⟨2, ![1, 128]⟩
abbrev S1x17x128 : Shape := ⟨3, ![1, 17, 128]⟩
abbrev S243x1x128 : Shape := ⟨3, ![243, 1, 128]⟩
abbrev S128x243x2176 : Shape := ⟨3, ![128, 243, 2176]⟩
abbrev S243x2176 : Shape := ⟨2, ![243, 2176]⟩
abbrev S2x243x2176 : Shape := ⟨3, ![2, 243, 2176]⟩
abbrev S1x243x2176 : Shape := ⟨3, ![1, 243, 2176]⟩

abbrev nBuf : Space → Nat
  | .hbm => 10
  | .vmem => 9
  | .smem => 0
  | _ => 0

abbrev bufTy : (tb : Table) → Fin (tcTables nBuf tb) → BufTy
  | .hbm, ⟨0, _⟩ => ⟨S128x243x17x128, .f32⟩
  | .hbm, ⟨1, _⟩ => ⟨S6x128, .f32⟩
  | .hbm, ⟨2, _⟩ => ⟨S243x128, .f32⟩
  | .hbm, ⟨3, _⟩ => ⟨S17, .i32⟩
  | .hbm, ⟨4, _⟩ => ⟨S17x1, .i32⟩
  | .hbm, ⟨5, _⟩ => ⟨S243x17x128, .f32⟩
  | .hbm, ⟨6, _⟩ => ⟨S128x243x2176, .f32⟩
  | .hbm, ⟨7, _⟩ => ⟨S243x2176, .f32⟩
  | .hbm, ⟨8, _⟩ => ⟨S128x243x2176, .f32⟩
  | .hbm, ⟨9, _⟩ => ⟨S128x243x17x128, .f32⟩
  | .local _ .vmem, ⟨0, _⟩ => ⟨S6x128, .f32⟩
  | .local _ .vmem, ⟨1, _⟩ => ⟨S243x128, .f32⟩
  | .local _ .vmem, ⟨2, _⟩ => ⟨S17x1, .i32⟩
  | .local _ .vmem, ⟨3, _⟩ => ⟨S243x17x128, .f32⟩
  | .local _ .vmem, ⟨4, _⟩ => ⟨S2x243x2176, .f32⟩
  | .local _ .vmem, ⟨5, _⟩ => ⟨S2x243x2176, .f32⟩
  | .local _ .vmem, ⟨6, _⟩ => ⟨S243x2176, .f32⟩
  | .local _ .vmem, ⟨7, _⟩ => ⟨S2x243x2176, .f32⟩
  | .local _ .vmem, ⟨8, _⟩ => ⟨S2x243x2176, .f32⟩
  | _, _ => ⟨S128x243x17x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S6x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S243x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S17x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S243x17x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2x243x2176 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S243x2176 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2x243x2176 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S128x243x17x128 : Shape := ⟨4, ![128, 243, 17, 128]⟩
abbrev S6x128 : Shape := ⟨2, ![6, 128]⟩
abbrev S243x128 : Shape := ⟨2, ![243, 128]⟩
abbrev S17 : Shape := ⟨1, ![17]⟩
abbrev S_ : Shape := ⟨0, ![]⟩
abbrev S17x1 : Shape := ⟨2, ![17, 1]⟩
abbrev S1 : Shape := ⟨1, ![1]⟩
abbrev S1x1 : Shape := ⟨2, ![1, 1]⟩
abbrev S17x128 : Shape := ⟨2, ![17, 128]⟩
abbrev S243 : Shape := ⟨1, ![243]⟩
abbrev S243x1 : Shape := ⟨2, ![243, 1]⟩
abbrev S1x1x17x128 : Shape := ⟨4, ![1, 1, 17, 128]⟩
abbrev S1x243x1x128 : Shape := ⟨4, ![1, 243, 1, 128]⟩

abbrev nBuf : Space → Nat
  | .hbm => 57
  | .vmem => 0
  | .smem => 0
  | _ => 0

abbrev bufTy : (tb : Table) → Fin (tcTables nBuf tb) → BufTy
  | .hbm, ⟨0, _⟩ => ⟨S128x243x17x128, .f32⟩
  | .hbm, ⟨1, _⟩ => ⟨S6x128, .f32⟩
  | .hbm, ⟨2, _⟩ => ⟨S243x128, .f32⟩
  | .hbm, ⟨3, _⟩ => ⟨S17, .i32⟩
  | .hbm, ⟨4, _⟩ => ⟨S_, .i32⟩
  | .hbm, ⟨5, _⟩ => ⟨S17, .i32⟩
  | .hbm, ⟨6, _⟩ => ⟨S17, .i1⟩
  | .hbm, ⟨7, _⟩ => ⟨S_, .i32⟩
  | .hbm, ⟨8, _⟩ => ⟨S17, .i32⟩
  | .hbm, ⟨9, _⟩ => ⟨S17, .i32⟩
  | .hbm, ⟨10, _⟩ => ⟨S17, .i32⟩
  | .hbm, ⟨11, _⟩ => ⟨S17x1, .i32⟩
  | .hbm, ⟨12, _⟩ => ⟨S1, .i32⟩
  | .hbm, ⟨13, _⟩ => ⟨S_, .i32⟩
  | .hbm, ⟨14, _⟩ => ⟨S17x1, .i32⟩
  | .hbm, ⟨15, _⟩ => ⟨S17x1, .i1⟩
  | .hbm, ⟨16, _⟩ => ⟨S1x1, .i32⟩
  | .hbm, ⟨17, _⟩ => ⟨S17x1, .i32⟩
  | .hbm, ⟨18, _⟩ => ⟨S17x1, .i1⟩
  | .hbm, ⟨19, _⟩ => ⟨S17x1, .i1⟩
  | .hbm, ⟨20, _⟩ => ⟨S_, .i1⟩
  | .hbm, ⟨21, _⟩ => ⟨S17, .i1⟩
  | .hbm, ⟨22, _⟩ => ⟨S17x128, .f32⟩
  | .hbm, ⟨23, _⟩ => ⟨S17x128, .i1⟩
  | .hbm, ⟨24, _⟩ => ⟨S_, .f32⟩
  | .hbm, ⟨25, _⟩ => ⟨S17x128, .f32⟩
  | .hbm, ⟨26, _⟩ => ⟨S17x128, .f32⟩
  | .hbm, ⟨27, _⟩ => ⟨S243, .i32⟩
  | .hbm, ⟨28, _⟩ => ⟨S_, .i32⟩
  | .hbm, ⟨29, _⟩ => ⟨S243, .i32⟩
  | .hbm, ⟨30, _⟩ => ⟨S243, .i1⟩
  | .hbm, ⟨31, _⟩ => ⟨S_, .i32⟩
  | .hbm, ⟨32, _⟩ => ⟨S243, .i32⟩
  | .hbm, ⟨33, _⟩ => ⟨S243, .i32⟩
  | .hbm, ⟨34, _⟩ => ⟨S243, .i32⟩
  | .hbm, ⟨35, _⟩ => ⟨S243x1, .i32⟩
  | .hbm, ⟨36, _⟩ => ⟨S1, .i32⟩
  | .hbm, ⟨37, _⟩ => ⟨S_, .i32⟩
  | .hbm, ⟨38, _⟩ => ⟨S243x1, .i32⟩
  | .hbm, ⟨39, _⟩ => ⟨S243x1, .i1⟩
  | .hbm, ⟨40, _⟩ => ⟨S1x1, .i32⟩
  | .hbm, ⟨41, _⟩ => ⟨S243x1, .i32⟩
  | .hbm, ⟨42, _⟩ => ⟨S243x1, .i1⟩
  | .hbm, ⟨43, _⟩ => ⟨S243x1, .i1⟩
  | .hbm, ⟨44, _⟩ => ⟨S_, .i1⟩
  | .hbm, ⟨45, _⟩ => ⟨S243, .i1⟩
  | .hbm, ⟨46, _⟩ => ⟨S243x128, .f32⟩
  | .hbm, ⟨47, _⟩ => ⟨S243x128, .i1⟩
  | .hbm, ⟨48, _⟩ => ⟨S_, .f32⟩
  | .hbm, ⟨49, _⟩ => ⟨S243x128, .f32⟩
  | .hbm, ⟨50, _⟩ => ⟨S243x128, .f32⟩
  | .hbm, ⟨51, _⟩ => ⟨S1x1x17x128, .f32⟩
  | .hbm, ⟨52, _⟩ => ⟨S128x243x17x128, .f32⟩
  | .hbm, ⟨53, _⟩ => ⟨S128x243x17x128, .f32⟩
  | .hbm, ⟨54, _⟩ => ⟨S1x243x1x128, .f32⟩
  | .hbm, ⟨55, _⟩ => ⟨S128x243x17x128, .f32⟩
  | .hbm, ⟨56, _⟩ => ⟨S128x243x17x128, .f32⟩
  | _, _ => ⟨S128x243x17x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v2 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩

abbrev nD : Nat := 1
abbrev τ : Topo := Topo.v7x

variable {F : FTy → Type} [FloatOps F]
-- ==== Proof.Levels.lean ====
/- One row of the spatial table, taken by a joint's level: the chain of six comparisons the kernel selects by, and the
   single read it comes down to when the level names a row. Then what each of the kernel's two bodies leaves in its
   output block, element by element. -/
module

public import proofs.«01_k».proof.Proof.Gen.KernelIdeal.Frame
public import Idealize.ShloMosaic.Lib.Pipeline.ValueKit

@[expose] public section

set_option maxRecDepth 16384

noncomputable section

namespace Cert.KernelIdeal.Sum

open Cert.KernelIdeal Cert.KernelIdeal.Gen
open Idealize.ShloMosaic Idealize.ShloMosaic.TcCoe

/-- The value the kernel selects for level `l` in lane `c`: rows 0 to 5 are tried in turn, each replacing what came before
    where the level equals its number, starting from zero. -/
def levelRow (h : FVec Ideal S6x128 .f32) (l : BitVec 32) (c : Fin 128) : Ideal .f32 :=
  Scalar.select (IntOp.cmpi .eq l 5#32) (h (ix2 5 c))
    (Scalar.select (IntOp.cmpi .eq l 4#32) (h (ix2 4 c))
      (Scalar.select (IntOp.cmpi .eq l 3#32) (h (ix2 3 c))
        (Scalar.select (IntOp.cmpi .eq l 2#32) (h (ix2 2 c))
          (Scalar.select (IntOp.cmpi .eq l 1#32) (h (ix2 1 c))
            (Scalar.select (IntOp.cmpi .eq l 0#32) (h (ix2 0 c)) (0 : EReal))))))

/-- For a level from 0 to 5 the chain of selects is the table's row of that number. -/
theorem levelRow_eq (h : FVec Ideal S6x128 .f32) (b : Fin 6) (c : Fin 128) :
    levelRow h (BitVec.ofNat 32 b.val) c = h (ix2 b c) := by
  fin_cases b <;> rfl

/-- The first body's output block: at `(n, j, c)` the row selected for joint `j` plus the temporal row `n`. -/
theorem bias_block (h : Vec Ideal S6x128 .f32) (p : Vec Ideal S243x128 .f32) (l : Vec Ideal S17x1 .i32)
    (n : Fin 243) (j : Fin 17) (c : Fin 128) :
    out0_3 (F := Ideal) h p l (ix3 n j c) = (levelRow h (l (ix2 j 0)) c : EReal) + p (ix2 n c) := by
  unfold out0_3
  frame_out
  pointwise [k0_pay1, k0_pay2, k0_pay3, k0_pay4, k0_pay5]
  rfl

/-- The second body's output block: at `(i, n, k)` the input block plus the bias row `n`. -/
theorem add_block (a : Vec Ideal S2x243x2176 .f32) (b : Vec Ideal S243x2176 .f32)
    (i : Fin 2) (n : Fin 243) (k : Fin 2176) :
    out1_2 (F := Ideal) a b (ix3 i n k) = (a (ix3 i n k) : EReal) + b (ix2 n k) := by
  unfold out1_2
  frame_out
  pointwise [k1_pay1]

end Cert.KernelIdeal.Sum

end
-- ==== Proof.Arrays.lean ====
/- The two arrays the kernel's regions leave, each as one function of the arrays the region reads: the bias table of the
   first region and the sum of the second, whose blocks of two batch entries cover the batch. -/
module

public import proofs.«01_k».proof.Proof.Levels

@[expose] public section

set_option maxRecDepth 16384

noncomputable section

namespace Cert.KernelIdeal.Sum

open Cert.KernelIdeal Cert.KernelIdeal.Gen
open Idealize.ShloMosaic Idealize.ShloMosaic.TcCoe

variable (V : (c : Dev nD) → (b : Ref sig .tc) → Buf (Elt Ideal) ((c : Thread nD τ).loc b))

/-- The bias table: the spatial row of each joint's level plus the temporal row of each frame. -/
def biasTable (h : FVec Ideal S6x128 .f32) (p : FVec Ideal S243x128 .f32) (l : IVec S17x1 32) : FVec Ideal S243x17x128 .f32 :=
  fun i => (levelRow h (l (ix2 (i 1) 0)) (i 2) : EReal) + p (ix2 (i 0) (i 2))

/-- Every batch entry plus the flat bias table. -/
def addRows (a : FVec Ideal S128x243x2176 .f32) (b : FVec Ideal S243x2176 .f32) : FVec Ideal S128x243x2176 .f32 :=
  fun i => (a i : EReal) + b (ix2 (i 1) (i 2))

/-- The one grid point of the first region reads the whole spatial table, -/
theorem idx0_0 : ∀ t : Fin cfg0.N, win0_0.index t = ![0, 0] := (by decide +kernel : ∀ t : Fin grid0.N, _)
/-- the whole temporal table, -/
theorem idx0_1 : ∀ t : Fin cfg0.N, win0_1.index t = ![0, 0] := (by decide +kernel : ∀ t : Fin grid0.N, _)
/-- and all the levels, -/
theorem idx0_2 : ∀ t : Fin cfg0.N, win0_2.index t = ![0, 0] := (by decide +kernel : ∀ t : Fin grid0.N, _)
/-- and writes the whole bias table. -/
theorem idx0_3 : ∀ t : Fin cfg0.N, win0_3.index t = ![0, 0, 0] := (by decide +kernel : ∀ t : Fin grid0.N, _)

/-- Each grid point of the second region reads its own two batch entries, -/
theorem idx1_0 : ∀ t : Fin cfg1.N, win1_0.index t = ![(grid1.coords t 0).val, 0, 0] := (by decide +kernel : ∀ t : Fin grid1.N, _)
/-- the whole flat bias table, -/
theorem idx1_1 : ∀ t : Fin cfg1.N, win1_1.index t = ![0, 0] := (by decide +kernel : ∀ t : Fin grid1.N, _)
/-- and writes the same two batch entries of the result. -/
theorem idx1_2 : ∀ t : Fin cfg1.N, win1_2.index t = ![(grid1.coords t 0).val, 0, 0] := (by decide +kernel : ∀ t : Fin grid1.N, _)

/-- After the first region its output array is the bias table of the arrays it read. -/
theorem bias_array (c : Dev nD) :
    (dat0 V c).arrAt 3 cfg0.N = biasTable (V c main_arg1) (V c main_arg2) (V c main_v0) := by
  refine (dat0 V c).arrAt_eq_of_covers 3 _ (by decide +kernel) fun t hf y => ?_
  blk_simp
  rw [after0_3]
  obtain ⟨n, j, k, rfl⟩ : ∃ n j k, y = ix3 (n0 := 243) (n1 := 17) (n2 := 128) n j k := ⟨_, _, _, eq_ix3 y⟩
  refine (bias_block _ _ _ n j k).trans ?_
  unfold biasTable levelRow
  blk_point [iblk0, idx0_0 t, idx0_1 t, idx0_2 t, idx0_3 t]

/-- After the second region its output array is the sum of the arrays it read. -/
theorem add_array (c : Dev nD) : (dat1 V c).arrAt 2 cfg1.N = addRows (V c main_v2) (V c main_v3) := by
  refine (dat1 V c).arrAt_eq_of_covers 2 _ (by decide +kernel) fun t hf y => ?_
  blk_simp
  rw [after1_2]
  obtain ⟨i, n, k, rfl⟩ : ∃ i n k, y = ix3 (n0 := 2) (n1 := 243) (n2 := 2176) i n k := ⟨_, _, _, eq_ix3 y⟩
  refine (add_block _ _ i n k).trans ?_
  unfold addRows
  blk_point [iblk1, idx1_0 t, idx1_1 t, idx1_2 t]

end Cert.KernelIdeal.Sum

end
-- ==== Proof.KernelRun.lean ====
/- The run of the idealized kernel with its result kept: every fair execution ends with the result array at the contents
   the last segment boundary records for it. The launch set-up is the frame certificate's. -/
module

public import proofs.«01_k».proof.Proof.Gen.KernelIdeal.Frame

@[expose] public section

set_option maxRecDepth 16384

noncomputable section

namespace Cert.KernelIdeal.Sum

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every fair execution of the kernel ends with the result array at the last boundary's contents and the four arguments
    as they were at launch. -/
theorem run_result : θ_run defs (onTc (τ := τ) (main (F := F))) ⟨m, fun _ => 0, ρ⟩ (fun r => ∀ c : Dev nD,
      r.2.mem ((c.tc : Thread nD τ).loc main_v5) = W5 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v5 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.Sum

end
-- ==== Proof.KernelValue.lean ====
/- The idealized kernel's result as one function of its arguments: the reshapes around the two regions read through, so
   that the element at `(b, n, j, c)` is the input's plus the bias of frame `n`, joint `j` and lane `c`. -/
module

public import proofs.«01_k».proof.Proof.Arrays
public import proofs.«01_k».proof.Proof.KernelRun

@[expose] public section

set_option maxRecDepth 16384

noncomputable section

namespace Cert.KernelIdeal.Sum

open Cert.KernelIdeal Cert.KernelIdeal.Gen
open Idealize.ShloMosaic Idealize.ShloMosaic.TcCoe Idealize.SL.Sem

/-- The kernel's result: the input plus, per frame and joint, the selected spatial row and the temporal row. -/
def kernelSum (x : FVec Ideal S128x243x17x128 .f32) (h : FVec Ideal S6x128 .f32) (p : FVec Ideal S243x128 .f32)
    (l : IVec S17 32) : FVec Ideal S128x243x17x128 .f32 :=
  fun i => (x i : EReal) + ((levelRow h (l (ix1 (i 2))) (i 3) : EReal) + p (ix2 (i 1) (i 3)))

/-- Adding the flattened bias to the flattened input and unflattening adds the bias at each joint and lane. -/
theorem unflatten_addRows (x : FVec Ideal S128x243x17x128 .f32) (t : FVec Ideal S243x17x128 .f32)
    (b : Fin 128) (n : Fin 243) (j : Fin 17) (c : Fin 128) :
    shapeCast S128x243x17x128 (addRows (shapeCast S128x243x2176 x shapeCasts_S128x243x17x128_S128x243x2176)
      (shapeCast S243x2176 t shapeCasts_S243x17x128_S243x2176)) shapeCasts_S128x243x2176_S128x243x17x128 (ix4 b n j c)
      = (x (ix4 b n j c) : EReal) + t (ix3 n j c) := by
  pointwise [addRows]

/-- The levels as a column read at a joint are the levels. -/
theorem column_levels (l : IVec S17 32) (j : Fin 17) : shapeCast S17x1 l shapeCasts_S17_S17x1 (ix2 j 0) = l (ix1 j) := by
  pointwise

variable (m : (ℓ : Loc nD τ sig) → Buf (Elt Ideal) ℓ) (ρ : Dev nD → PrngReg) (c : Dev nD)

/-- The first region reads the levels as a column. -/
theorem V1_levels : V1 m ρ c main_v0 = shapeCast S17x1 (m ((c.tc : Thread nD τ).loc main_arg3)) shapeCasts_S17_S17x1 := by
  show StableHlo.after hostOps0 (W0 m ρ c) (Proc.devRef .tc main_v0) = _
  after_results
  rfl

/-- After the first region its output array is the bias table of the arguments. -/
theorem W2_bias : W2 m ρ c (Proc.devRef .tc main_v1)
    = biasTable (m ((c.tc : Thread nD τ).loc main_arg1)) (m ((c.tc : Thread nD τ).loc main_arg2))
        (shapeCast S17x1 (m ((c.tc : Thread nD τ).loc main_arg3)) shapeCasts_S17_S17x1) := by
  refine ((W2_arr m ρ c 3).trans (bias_array (V1 m ρ) c)).trans ?_
  rw [V1_levels, show V1 m ρ c main_arg1 = _ from W1_args m ρ c main_arg1 (by decide),
    show V1 m ρ c main_arg2 = _ from W1_args m ρ c main_arg2 (by decide)]

/-- The second region reads the input with joints and lanes on one axis, -/
theorem V3_input : V3 m ρ c main_v2
    = shapeCast S128x243x2176 (m ((c.tc : Thread nD τ).loc main_arg0)) shapeCasts_S128x243x17x128_S128x243x2176 := by
  rw [← W2_args m ρ c main_arg0 (by decide)]
  show StableHlo.after hostOps1 (W2 m ρ c) (Proc.devRef .tc main_v2) = _
  after_results
  rfl

/-- and the bias table likewise. -/
theorem V3_bias : V3 m ρ c main_v3 = shapeCast S243x2176 (W2 m ρ c (Proc.devRef .tc main_v1)) shapeCasts_S243x17x128_S243x2176 := by
  show StableHlo.after hostOps1 (W2 m ρ c) (Proc.devRef .tc main_v3) = _
  after_results
  rfl

/-- The result is the second region's output with joints and lanes on two axes again. -/
theorem W5_result : W5 m ρ c (Proc.devRef .tc main_v5)
    = shapeCast S128x243x17x128 (W4 m ρ c (Proc.devRef .tc main_v4)) shapeCasts_S128x243x2176_S128x243x17x128 := by
  show StableHlo.after hostOps2 (W4 m ρ c) (Proc.devRef .tc main_v5) = _
  after_results
  rfl

/-- The result array at the last boundary is `kernelSum` of the launch arguments. -/
theorem W5_eq : W5 m ρ c (Proc.devRef .tc main_v5)
    = kernelSum (m ((c.tc : Thread nD τ).loc main_arg0)) (m ((c.tc : Thread nD τ).loc main_arg1))
        (m ((c.tc : Thread nD τ).loc main_arg2)) (m ((c.tc : Thread nD τ).loc main_arg3)) := by
  rw [W5_result, show W4 m ρ c (Proc.devRef .tc main_v4) = _ from (W4_arr m ρ c 2).trans (add_array (V3 m ρ) c),
    V3_input, V3_bias, W2_bias]
  funext i
  obtain ⟨b, n, j, k, rfl⟩ : ∃ b n j k, i = ix4 (n0 := 128) (n1 := 243) (n2 := 17) (n3 := 128) b n j k := ⟨_, _, _, _, eq_ix4 i⟩
  refine (unflatten_addRows _ _ b n j k).trans ?_
  show _ + ((levelRow _ (shapeCast S17x1 _ shapeCasts_S17_S17x1 (ix2 j 0)) k : EReal) + _) = _
  rw [column_levels]
  rfl

end Cert.KernelIdeal.Sum

end
-- ==== Proof.ReferenceValue.lean ====
/- The reference's result as one function of its arguments when every level names a row: both table look-ups are in range,
   so their range masks are true everywhere, and each reads the row its index names. -/
module

public import proofs.«01_k».proof.Proof.Gen.ReferenceIdeal.Run
public import Idealize.ShloMosaic.Lib.Pointwise
public import Idealize.ShloMosaic.Lib.ReduceAll
public import Idealize.ShloMosaic.Lib.Routing.Ops

@[expose] public section

set_option maxRecDepth 8192

noncomputable section

namespace Cert.ReferenceIdeal.Sum

open Cert.ReferenceIdeal Cert.ReferenceIdeal.Gen
open Idealize.ShloMosaic Idealize.ShloMosaic.TcCoe Idealize.SL.Sem

/-- The levels as the row look-up uses them: a negative level counts from the table's end. -/
def levelIndex (l : IVec S17 32) : IVec S17x1 32 :=
  broadcastInDim S17x1 ![0] bcast_S17_S17x1_0
    (select (cmpi .slt l (broadcastInDim S17 ![] bcast_S_S17 (constantI S_ 32 0#32)))
      (addi l (broadcastInDim S17 ![] bcast_S_S17 (constantI S_ 32 6#32))) l)

/-- Whether each joint's level names a row of the spatial table. -/
def levelMask (l : IVec S17 32) : IVec S17 1 :=
  Host.reduce IntOp.andi
    (andi (cmpi .sge (levelIndex l) (broadcastInDim S17x1 ![] bcast_S_S17x1 (constantI S_ 32 0#32)))
      (cmpi .sle (levelIndex l)
        (broadcastInDim S17x1 ![0, 1] bcast_S1x1_S17x1_0_1 (broadcastInDim S1x1 ![1] bcast_S1_S1x1_1 (constantI S1 32 5#32)))))
    (constantI S_ 1 1#1) reducesTo_S17x1_S17_d1 h_S_

/-- The spatial rows looked up, one per joint; a joint whose level names no row reads as not a number. -/
def spatialRows (h : FVec Ideal S6x128 .f32) (l : IVec S17 32) : FVec Ideal S17x128 .f32 :=
  select (broadcastInDim S17x128 ![0] bcast_S17_S17x128_0 (levelMask l))
    (Host.gather gather_S6x128_S17x1_S17x128_1_0_n_n_0_1_1128 h (levelIndex l))
    (broadcastInDim S17x128 ![] bcast_S_S17x128 (constant S_ .f32 0x7FC00000#32))

/-- The frame numbers as the row look-up uses them. -/
def frameIndex : IVec S243x1 32 :=
  broadcastInDim S243x1 ![0] bcast_S243_S243x1_0
    (select (cmpi .slt (iotaInDim S243 32 0) (broadcastInDim S243 ![] bcast_S_S243 (constantI S_ 32 0#32)))
      (addi (iotaInDim S243 32 0) (broadcastInDim S243 ![] bcast_S_S243 (constantI S_ 32 243#32))) (iotaInDim S243 32 0))

/-- Whether each frame number names a row of the temporal table. -/
def frameMask : IVec S243 1 :=
  Host.reduce IntOp.andi
    (andi (cmpi .sge frameIndex (broadcastInDim S243x1 ![] bcast_S_S243x1 (constantI S_ 32 0#32)))
      (cmpi .sle frameIndex
        (broadcastInDim S243x1 ![0, 1] bcast_S1x1_S243x1_0_1 (broadcastInDim S1x1 ![1] bcast_S1_S1x1_1 (constantI S1 32 242#32)))))
    (constantI S_ 1 1#1) reducesTo_S243x1_S243_d1 h_S_

/-- The temporal rows looked up, one per frame. -/
def temporalRows (p : FVec Ideal S243x128 .f32) : FVec Ideal S243x128 .f32 :=
  select (broadcastInDim S243x128 ![0] bcast_S243_S243x128_0 frameMask)
    (Host.gather gather_S243x128_S243x1_S243x128_1_0_n_n_0_1_1128 p frameIndex)
    (broadcastInDim S243x128 ![] bcast_S_S243x128 (constant S_ .f32 0x7FC00000#32))

/-- The reference's result: the input plus the spatial rows of the joints plus the temporal rows of the frames. -/
def referenceSum (x : FVec Ideal S128x243x17x128 .f32) (h : FVec Ideal S6x128 .f32) (p : FVec Ideal S243x128 .f32)
    (l : IVec S17 32) : FVec Ideal S128x243x17x128 .f32 :=
  addf (addf x (broadcastInDim S128x243x17x128 ![0, 1, 2, 3] bcast_S1x1x17x128_S128x243x17x128_0_1_2_3
      (broadcastInDim S1x1x17x128 ![2, 3] bcast_S17x128_S1x1x17x128_2_3 (spatialRows h l))))
    (broadcastInDim S128x243x17x128 ![0, 1, 2, 3] bcast_S1x243x1x128_S128x243x17x128_0_1_2_3
      (broadcastInDim S1x243x1x128 ![1, 3] bcast_S243x128_S1x243x1x128_1_3 (temporalRows p)))

/-- A small number as a word is not negative, is at least zero and at most any bound it is at most: the three range tests
    of a row look-up. -/
theorem range_tests (n k : Nat) (hk : k < 2 ^ 31) (hn : n ≤ k) :
    IntOp.cmpi .slt (BitVec.ofNat 32 n) 0#32 = 0#1 ∧ IntOp.cmpi .sge (BitVec.ofNat 32 n) 0#32 = 1#1
      ∧ IntOp.cmpi .sle (BitVec.ofNat 32 n) (BitVec.ofNat 32 k) = 1#1 := by
  have e1 := StableHlo.Predicate.toInt_ofNat_small n (by omega)
  have e2 := StableHlo.Predicate.toInt_ofNat_small k hk
  have e0 : (0#32 : BitVec 32).toInt = 0 := rfl
  have f1 : ¬(BitVec.ofNat 32 n).toInt < (0#32 : BitVec 32).toInt := by omega
  have f2 : (0#32 : BitVec 32).toInt ≤ (BitVec.ofNat 32 n).toInt := by omega
  have f3 : (BitVec.ofNat 32 n).toInt ≤ (BitVec.ofNat 32 k).toInt := by omega
  unfold IntOp.cmpi BitVec.slt BitVec.sle
  exact ⟨by rw [decide_eq_false f1]; rfl, by dsimp only; rw [decide_eq_true f2]; rfl, by dsimp only; rw [decide_eq_true f3]; rfl⟩

/-- At a joint whose level is row `b` the look-up's index is `b`. -/
theorem levelIndex_apply (l : IVec S17 32) (j : Fin 17) (b : Fin 6) (hb : l (ix1 j) = BitVec.ofNat 32 b.val) :
    levelIndex l (ix2 j 0) = BitVec.ofNat 32 b.val := by
  pointwise [levelIndex]
  rw [hb, (range_tests b.val 5 (by norm_num) (by omega)).1]
  rfl

/-- When every level names a row the mask is true at every joint. -/
theorem levelMask_apply (l : IVec S17 32) (hl : ∀ j : Fin 17, ∃ b : Fin 6, l (ix1 j) = BitVec.ofNat 32 b.val) (j : S17.Idx) :
    levelMask l j = 1#1 := by
  refine Host.reduce_andi_one _ _ _ _ _ rfl fun i => ?_
  obtain ⟨j', z, rfl⟩ : ∃ j' z, i = ix2 (n0 := 17) (n1 := 1) j' z := ⟨_, _, eq_ix2 i⟩
  obtain rfl : z = 0 := Subsingleton.elim _ _
  obtain ⟨b, hb⟩ := hl j'
  obtain ⟨-, h1, h2⟩ := range_tests b.val 5 (by norm_num) (by omega)
  have e := levelIndex_apply l j' b hb
  show IntOp.andi (IntOp.cmpi .sge (levelIndex l (ix2 j' 0)) 0#32) (IntOp.cmpi .sle (levelIndex l (ix2 j' 0)) 5#32) = 1#1
  rw [e, h1, h2]
  rfl

/-- When every level names a row the look-up at a joint reads the row its level names. -/
theorem spatialRows_apply (h : FVec Ideal S6x128 .f32) (l : IVec S17 32)
    (hl : ∀ j : Fin 17, ∃ b : Fin 6, l (ix1 j) = BitVec.ofNat 32 b.val) (j : Fin 17) (c : Fin 128) (b : Fin 6)
    (hb : l (ix1 j) = BitVec.ofNat 32 b.val) : spatialRows h l (ix2 j c) = h (ix2 b c) := by
  show Scalar.select (levelMask l _) (Host.gather gather_S6x128_S17x1_S17x128_1_0_n_n_0_1_1128 h (levelIndex l) (ix2 j c)) _ = _
  rw [levelMask_apply l hl]
  exact Routing.gather_row gather_S6x128_S17x1_S17x128_1_0_n_n_0_1_1128 rfl rfl rfl rfl rfl h (levelIndex l) j c b
    (levelIndex_apply l j b hb) (by norm_num)

/-- The look-up's index of a frame is its number. -/
theorem frameIndex_apply (n : Fin 243) : frameIndex (ix2 n 0) = BitVec.ofNat 32 n.val := by
  pointwise [frameIndex]
  rw [(range_tests n.val 242 (by norm_num) (by omega)).1]
  rfl

/-- Every frame number is in range. -/
theorem frameMask_apply (n : S243.Idx) : frameMask n = 1#1 := by
  refine Host.reduce_andi_one _ _ _ _ _ rfl fun i => ?_
  obtain ⟨n', z, rfl⟩ : ∃ n' z, i = ix2 (n0 := 243) (n1 := 1) n' z := ⟨_, _, eq_ix2 i⟩
  obtain rfl : z = 0 := Subsingleton.elim _ _
  obtain ⟨-, h1, h2⟩ := range_tests n'.val 242 (by norm_num) (by omega)
  show IntOp.andi (IntOp.cmpi .sge (frameIndex (ix2 n' 0)) 0#32) (IntOp.cmpi .sle (frameIndex (ix2 n' 0)) 242#32) = 1#1
  rw [frameIndex_apply, h1, h2]
  rfl

/-- The temporal look-up reads the table as it stands. -/
theorem temporalRows_apply (p : FVec Ideal S243x128 .f32) (n : Fin 243) (c : Fin 128) :
    temporalRows p (ix2 n c) = p (ix2 n c) := by
  show Scalar.select (frameMask _) (Host.gather gather_S243x128_S243x1_S243x128_1_0_n_n_0_1_1128 p frameIndex (ix2 n c)) _ = _
  rw [frameMask_apply]
  exact Routing.gather_row gather_S243x128_S243x1_S243x128_1_0_n_n_0_1_1128 rfl rfl rfl rfl rfl p frameIndex n c n
    (frameIndex_apply n) (by norm_num)

/-- When every level names a row, the reference's element at `(i, n, j, c)` is the input's, plus the spatial row of joint
    `j`'s level, plus the temporal row of frame `n`. -/
theorem referenceSum_apply (x : FVec Ideal S128x243x17x128 .f32) (h : FVec Ideal S6x128 .f32) (p : FVec Ideal S243x128 .f32)
    (l : IVec S17 32) (hl : ∀ j : Fin 17, ∃ b : Fin 6, l (ix1 j) = BitVec.ofNat 32 b.val)
    (i : Fin 128) (n : Fin 243) (j : Fin 17) (c : Fin 128) (b : Fin 6) (hb : l (ix1 j) = BitVec.ofNat 32 b.val) :
    referenceSum x h p l (ix4 i n j c) = ((x (ix4 i n j c) : EReal) + h (ix2 b c)) + p (ix2 n c) := by
  pointwise [referenceSum]
  rw [spatialRows_apply h l hl j c b hb, temporalRows_apply]

/-- Every fair execution of the reference ends with the result array at `referenceSum` of the launch arguments and the
    arguments as they were at launch. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8)
          = referenceSum (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.ReferenceIdeal.Value.run m ρ

end Cert.ReferenceIdeal.Sum

end
-- ==== Proof.LevelRange.lean ====
/- What the precondition says of the levels: each one is a word holding one of the numbers 0 to 5. -/
module

public import proofs.«01_k».proof.Proof.Gen.Pre_joint_levels
public import Idealize.ShloMosaic.Lib.Pointwise

@[expose] public section

noncomputable section

namespace Cert.LevelRange

open Cert.Pre_joint_levels
open Idealize.ShloMosaic

/-- Two one-bit words whose conjunction is true are both true. -/
theorem and_true (a b : BitVec 1) (h : IntOp.andi a b = 1#1) : a = 1#1 ∧ b = 1#1 := by
  revert h
  revert a b
  decide

/-- A word that is at least 0 and below 6, both as signed tests, holds a number from 0 to 5. -/
theorem level_of_tests (l : BitVec 32) (h0 : IntOp.cmpi .sge l 0#32 = 1#1) (h6 : IntOp.cmpi .slt l 6#32 = 1#1) :
    ∃ b : Fin 6, l = BitVec.ofNat 32 b.val := by
  have bit : ∀ p : Prop, ∀ d : Decidable p, BitVec.ofBool (decide p) = 1#1 → p := fun p d h => by
    by_contra hp
    rw [decide_eq_false hp] at h
    exact absurd h (by decide)
  have g0 : (0 : Int) ≤ l.toInt := bit _ _ h0
  have g6 : l.toInt < 6 := bit _ _ h6
  have e : l = BitVec.ofInt 32 l.toInt := BitVec.ofInt_toInt.symm
  generalize l.toInt = z at e g0 g6
  obtain ⟨k, rfl⟩ := Int.eq_ofNat_of_zero_le g0
  exact ⟨⟨k, by omega⟩, e.trans (BitVec.ofInt_natCast 32 k)⟩

/-- Under the precondition every joint's level is a number from 0 to 5. -/
theorem levels (x : FVec Ideal S128x243x17x128 .f32) (h : FVec Ideal S6x128 .f32) (p : FVec Ideal S243x128 .f32)
    (l : IVec S17 32) (hpre : fn (F := Ideal) x h p l = fun _ => 1#1) (j : Fin 17) :
    ∃ b : Fin 6, l (ix1 j) = BitVec.ofNat 32 b.val := by
  have e := congrFun hpre (ix1 j)
  obtain ⟨h0, h6⟩ := and_true (IntOp.cmpi .sge (l (ix1 j)) 0#32) (IntOp.cmpi .slt (l (ix1 j)) 6#32) e
  exact level_of_tests _ h0 h6

end Cert.LevelRange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_joint_levels
public import proofs.«01_k».proof.Proof.KernelValue
public import proofs.«01_k».proof.Proof.ReferenceValue
public import proofs.«01_k».proof.Proof.LevelRange
public import Idealize.ShloMosaic.Lib.Quiescent
public import Idealize.ShloMosaic.Adequacy
public import Idealize.ShloMosaic.Init

@[expose] public section

noncomputable section

namespace Cert.Proof

open Idealize.ShloMosaic Idealize.SL.Sem

/-- The reference ends with its arguments as launched and every counter at zero, from any start. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3)
            = m ((c.tc : Thread Cert.ReferenceIdeal.nD Cert.ReferenceIdeal.τ).loc Cert.ReferenceIdeal.main_arg3))
        ∧ r.2.sem = fun _ => 0) :=
  (θ_run Cert.ReferenceIdeal.defs _ _).mono (fun r h => ⟨fun c => (h c).2, sem_eq_zero_of_no_sems (by decide) r.2⟩)
    (Cert.ReferenceIdeal.Sum.run_result m g)

/-- When every level names a row of the spatial table, the kernel's result and the reference's are the same array. -/
theorem sums_agree (x : FVec Ideal Cert.KernelIdeal.S128x243x17x128 .f32) (h : FVec Ideal Cert.KernelIdeal.S6x128 .f32)
    (p : FVec Ideal Cert.KernelIdeal.S243x128 .f32) (l : IVec Cert.KernelIdeal.S17 32)
    (hl : ∀ j : Fin 17, ∃ b : Fin 6, l (ix1 j) = BitVec.ofNat 32 b.val) :
    Cert.ReferenceIdeal.Sum.referenceSum x h p l = Cert.KernelIdeal.Sum.kernelSum x h p l := by
  funext i
  obtain ⟨a, n, j, c, rfl⟩ : ∃ a n j c, i = ix4 (n0 := 128) (n1 := 243) (n2 := 17) (n3 := 128) a n j c :=
    ⟨_, _, _, _, eq_ix4 i⟩
  obtain ⟨b, hb⟩ := hl j
  refine (Cert.ReferenceIdeal.Sum.referenceSum_apply x h p l hl a n j c b hb).trans ?_
  show _ = (x (ix4 a n j c) : EReal) + ((Cert.KernelIdeal.Sum.levelRow h (l (ix1 j)) c : EReal) + p (ix2 n c))
  rw [hb, Cert.KernelIdeal.Sum.levelRow_eq]
  exact add_assoc _ _ _

/-- Under the precondition the idealized kernel and the idealized reference end with the same result. -/
theorem value : Cert.algebraic_KernelIdeal_ReferenceIdeal_pre_joint_levels
    (hKernelIdeal := Cert.KernelIdeal.Gen.facts) (hReferenceIdeal := Cert.ReferenceIdeal.Gen.facts)
    (hPre_joint_levels := Cert.Pre_joint_levels.Gen.facts) := by
  intro m g m' g' hpre hm
  refine ⟨fun c => Cert.KernelIdeal.Sum.kernelSum _ _ _ _,
    (θ_run Cert.KernelIdeal.defs _ _).mono
      (fun r h c => ⟨(h c).1.trans (Cert.KernelIdeal.Sum.W5_eq m g c), (h c).2⟩)
      (Cert.KernelIdeal.Sum.run_result m g),
    (θ_run Cert.ReferenceIdeal.defs _ _).mono
      (fun r h c => ⟨(h c).1.trans ?_, (h c).2⟩) (Cert.ReferenceIdeal.Sum.run_result m' g')⟩
  obtain ⟨e0, e1, e2, e3⟩ := hm c
  rw [e0, e1, e2, e3]
  exact sums_agree _ _ _ _ (Cert.LevelRange.levels _ _ _ _ (hpre c))

/-- All the claims. -/
theorem claim : Cert.Claim :=
  ⟨Cert.Kernel.Gen.facts, Cert.KernelIdeal.Gen.facts, Cert.ReferenceIdeal.Gen.facts, Cert.Pre_joint_levels.Gen.facts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    trivial,
    value⟩

end Cert.Proof

end
